-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024x50 : Shape := ⟨2, ![1024, 50]⟩
abbrev S50x1024 : Shape := ⟨2, ![50, 1024]⟩
abbrev S50x1x1024 : Shape := ⟨3, ![50, 1, 1024]⟩
abbrev S50x1000x1024 : Shape := ⟨3, ![50, 1000, 1024]⟩
abbrev S1x1x1024 : Shape := ⟨3, ![1, 1, 1024]⟩
abbrev S1x200x1024 : Shape := ⟨3, ![1, 200, 1024]⟩
abbrev S1x1024 : Shape := ⟨2, ![1, 1024]⟩
abbrev S1024x50x1000 : Shape := ⟨3, ![1024, 50, 1000]⟩

abbrev nBuf : Space → Nat
  | .hbm => 5
  | .vmem => 4
  | .smem => 0
  | _ => 0

abbrev bufTy : (tb : Table) → Fin (tcTables nBuf tb) → BufTy
  | .hbm, ⟨0, _⟩ => ⟨S1024x50, .i32⟩
  | .hbm, ⟨1, _⟩ => ⟨S50x1024, .i32⟩
  | .hbm, ⟨2, _⟩ => ⟨S50x1x1024, .i32⟩
  | .hbm, ⟨3, _⟩ => ⟨S50x1000x1024, .f32⟩
  | .hbm, ⟨4, _⟩ => ⟨S1024x50x1000, .f32⟩
  | .local _ .vmem, ⟨0, _⟩ => ⟨S1x1x1024, .i32⟩
  | .local _ .vmem, ⟨1, _⟩ => ⟨S1x1x1024, .i32⟩
  | .local _ .vmem, ⟨2, _⟩ => ⟨S1x200x1024, .f32⟩
  | .local _ .vmem, ⟨3, _⟩ => ⟨S1x200x1024, .f32⟩
  | _, _ => ⟨S1024x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![50, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x200x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference.lean ====
abbrev S1024x50 : Shape := ⟨2, ![1024, 50]⟩
abbrev S1024x50x1 : Shape := ⟨3, ![1024, 50, 1]⟩
abbrev S1x1x1000 : Shape := ⟨3, ![1, 1, 1000]⟩
abbrev S1024x50x1000 : Shape := ⟨3, ![1024, 50, 1000]⟩

abbrev nBuf : Space → Nat
  | .hbm => 7
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S1024x50x1, .i32⟩
  | .hbm, ⟨2, _⟩ => ⟨S1x1x1000, .i32⟩
  | .hbm, ⟨3, _⟩ => ⟨S1024x50x1000, .i32⟩
  | .hbm, ⟨4, _⟩ => ⟨S1024x50x1000, .i32⟩
  | .hbm, ⟨5, _⟩ => ⟨S1024x50x1000, .i1⟩
  | .hbm, ⟨6, _⟩ => ⟨S1024x50x1000, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Proof.OneHot.lean ====
/- The one-hot encoding as mathematics: one cell, the array the kernel writes, the array the reference writes. -/
module

public import Idealize.ShloMosaic.PureOps
public import Idealize.ShloMosaic.PureOps.Ideal
public import Idealize.ShloMosaic.PureOps.BitExact
public import Idealize.ShloMosaic.Lib.ValueIdx
public import Idealize.ShloMosaic.Lib.Pointwise

@[expose] public section

noncomputable section

namespace Cert.OneHot

open Idealize.ShloMosaic

variable {F : FTy → Type} [FloatOps F]

/-- The cell of the index word `w` at class `d`: whether `w` is the word of `d`, as a float (1 if it is, 0 if not). -/
def cell (w : BitVec 32) (d : Nat) : F .f32 := FloatOps.uitofp .f32 (IntOp.cmpi .eq w (BitVec.ofNat 32 d))

/-- The encoding of a 1024 × 50 array of index words in the order [token, class, batch], as the tiled kernel writes it. -/
def slab (x : (⟨2, ![1024, 50]⟩ : Shape).Idx → BitVec 32) : (⟨3, ![50, 1000, 1024]⟩ : Shape).Idx → F .f32 :=
  fun i => cell (x (ix2 (i 2) (i 0))) (i 1).val

/-- The encoding in the order [batch, token, class], which is the result. -/
def encoded (x : (⟨2, ![1024, 50]⟩ : Shape).Idx → BitVec 32) : (⟨3, ![1024, 50, 1000]⟩ : Shape).Idx → F .f32 :=
  fun i => cell (x (ix2 (i 0) (i 1))) (i 2).val

/-- The float instance reads a bit widened to a 32-bit word, as a signed number, as it reads the bit itself: what the
    kernel's two conversions (the mask to i32, i32 to f32) have in common with the reference's one (the mask to f32). -/
def WidenedBit (F : FTy → Type) [FloatOps F] : Prop :=
  ∀ b : BitVec 1, (FloatOps.sitofp .f32 (b.setWidth 32) : F .f32) = FloatOps.uitofp .f32 b

/-- A bit widened to 32 bits is the same number read signed as the bit is read unsigned. -/
theorem toInt_widened (b : BitVec 1) : (b.setWidth 32).toInt = (b.toNat : Int) := by
  revert b; decide

/-- Over the extended reals the two conversions agree. -/
theorem widenedBit_ideal : WidenedBit Ideal := by
  intro b
  show (((b.setWidth 32).toInt : ℝ) : EReal) = ((b.toNat : ℝ) : EReal)
  rw [toInt_widened]
  simp

/-- On bit patterns they agree: both are the f32 word of the same integer. -/
theorem widenedBit_bits : WidenedBit Bits := by
  intro b
  show Bits.sitofp32 (b.setWidth 32) = Bits.uitofp32 b
  unfold Bits.sitofp32 Bits.uitofp32
  rw [toInt_widened]

/-- Class `200·j + k` as the kernel computes its word: the block's offset `j · 200`, plus the row `k` in the block. -/
theorem class_word (j k : Nat) : BitVec.ofNat 32 j * 200#32 + BitVec.ofNat 32 k = BitVec.ofNat 32 (j * 200 + k) := by
  rw [BitVec.ofNat_add, BitVec.ofNat_mul]

/-- The kernel's cell, with the class's word computed block by block and the mask converted in two steps, is the cell. -/
theorem cell_of_block (hF : WidenedBit F) (w : BitVec 32) (j k : Nat) :
    (FloatOps.sitofp .f32 ((IntOp.cmpi .eq w (BitVec.ofNat 32 j * 200#32 + BitVec.ofNat 32 k)).setWidth 32) : F .f32)
      = cell w (j * 200 + k) := by
  rw [hF, class_word, cell]

/-- Moving the batch axis to the front turns what the kernel writes into the result. -/
theorem transpose_slab (x : (⟨2, ![1024, 50]⟩ : Shape).Idx → BitVec 32)
    (h : (⟨3, ![50, 1000, 1024]⟩ : Shape).Transposes [2, 0, 1] ⟨3, ![1024, 50, 1000]⟩) :
    transpose ⟨3, ![1024, 50, 1000]⟩ [2, 0, 1] (slab (F := F) x) h = encoded x := by
  funext i
  pointwise [slab, encoded]

/-- The comparison of the indices, repeated along the classes, with the class numbers, repeated along the batch and
    the tokens, converted to a float: what the reference computes is the encoding. -/
theorem compared_classes (x : (⟨2, ![1024, 50]⟩ : Shape).Idx → BitVec 32)
    (h0 : (⟨2, ![1024, 50]⟩ : Shape).BroadcastsInDim ⟨3, ![1024, 50, 1]⟩ ![0, 1])
    (h1 : (⟨3, ![1024, 50, 1]⟩ : Shape).BroadcastsInDim ⟨3, ![1024, 50, 1000]⟩ ![0, 1, 2])
    (h2 : (⟨3, ![1, 1, 1000]⟩ : Shape).BroadcastsInDim ⟨3, ![1024, 50, 1000]⟩ ![0, 1, 2]) :
    uitofp (F := F) .f32 (cmpi .eq
      (broadcastInDim ⟨3, ![1024, 50, 1000]⟩ ![0, 1, 2] h1 (broadcastInDim ⟨3, ![1024, 50, 1]⟩ ![0, 1] h0 x))
      (broadcastInDim ⟨3, ![1024, 50, 1000]⟩ ![0, 1, 2] h2 (iotaInDim ⟨3, ![1, 1, 1000]⟩ 32 2))) = encoded x := by
  funext i
  pointwise [encoded, cell]

end Cert.OneHot

end
-- ==== Proof.KernelIdealValue.lean ====
/- What the tiled kernel leaves in its result: launch by launch, the cells of the one-hot encoding. -/
module

public import proofs.«01_k».proof.Proof.OneHot
public import proofs.«01_k».proof.Proof.Gen.KernelIdeal.Frame
public import Idealize.ShloMosaic.Lib.Pipeline.ValueKit

@[expose] public section

set_option maxRecDepth 16384

noncomputable section

namespace Cert.KernelIdeal.Encoded

open Idealize.ShloMosaic Idealize.ShloMosaic.TcCoe Idealize.SL.Sem
open Idealize.ShloMosaic.Pipeline (Dat)
open Cert.KernelIdeal Cert.KernelIdeal.Gen Cert.OneHot

variable {F : FTy → Type} [FloatOps F]
variable (m : (ℓ : Loc nD τ sig) → Buf (Elt F) ℓ) (ρ : Dev nD → PrngReg)

/-- The launch reads the index array with the token axis in front and an axis of extent 1 between: its word at
    `(a, z, b)` is the argument's word at batch `b`, token `a`. -/
theorem entry (c : Dev nD) (a : Fin 50) (z : Fin 1) (b : Fin 1024) :
    V m c main_v1 (ix3 a z b) = m ((c : Thread nD τ).loc main_arg0) (ix2 b a) := by
  show shapeCast S50x1x1024 (transpose S50x1024 [1, 0] (m ((c : Thread nD τ).loc main_arg0)) transposes_S1024x50_S50x1024_1_0)
    shapeCasts_S50x1024_S50x1x1024 (ix3 a z b) = _
  pointwise

/-- Where an element of the output block of grid point `t` lies in the whole array: its token is the point's first
    coordinate, its class the point's second coordinate times 200 plus the row in the block, its batch the lane. -/
theorem out_row (t : Fin cfg0.N) (y : S1x200x1024.Idx) :
    ((win0_1.blk t).view.emb y 0).val = (grid0.coords t 0).val
      ∧ ((win0_1.blk t).view.emb y 1).val = (grid0.coords t 1).val * 200 + (y 1).val
      ∧ ((win0_1.blk t).view.emb y 2).val = (y 2).val := by
  have h0 : (grid0.coords t 0).val < 50 := (grid0.coords t 0).isLt
  have h1 : (grid0.coords t 1).val < 5 := (grid0.coords t 1).isLt
  have hy : (y 0).val < 1 := (y 0).isLt
  have e0 : ((win0_1.blk t).view.emb y 0).val = (BitVec.ofNat 32 (grid0.coords t 0).val).toNat * 1 + 1 * (y 0).val := rfl
  have e1 : ((win0_1.blk t).view.emb y 1).val = (BitVec.ofNat 32 (grid0.coords t 1).val).toNat * 200 + 1 * (y 1).val := rfl
  have e2 : ((win0_1.blk t).view.emb y 2).val = 0 * 1024 + 1 * (y 2).val := rfl
  rw [e0, e1, e2, BitVec.toNat_ofNat, BitVec.toNat_ofNat]
  omega

/-- The input block of grid point `t` holds, at lane `b`, the argument's word at batch `b` and the point's token. -/
theorem in_row (c : Dev nD) (t : Fin cfg0.N) (b : Fin 1024) :
    iblk m c 0 t (ix3 (0 : Fin 1) (0 : Fin 1) b) = m ((c : Thread nD τ).loc main_arg0) (ix2 b (grid0.coords t 0)) := by
  have h0 : (grid0.coords t 0).val < 50 := (grid0.coords t 0).isLt
  rw [← entry m c (grid0.coords t 0) 0 b]
  show V m c main_v1 ((win0_0.blk t).view.emb (ix3 (0 : Fin 1) (0 : Fin 1) b)) = _
  congr 1
  funext a
  apply Fin.ext
  match a with
  | ⟨0, _⟩ =>
    show (BitVec.ofNat 32 (grid0.coords t 0).val).toNat * 1 + 1 * 0 = (grid0.coords t 0).val
    rw [BitVec.toNat_ofNat]; omega
  | ⟨1, _⟩ => rfl
  | ⟨2, _⟩ =>
    show 0 * 1024 + 1 * b.val = b.val
    omega

/-- After every grid point the launch's output array is the encoding in the order [token, class, batch]. -/
theorem final (hF : WidenedBit F) (c : Dev nD) :
    (dats m 0 c).arrAt 1 cfg0.N = slab (F := F) (m ((c : Thread nD τ).loc main_arg0)) := by
  refine (dats m 0 c).arrAt_eq_of_covers 1 _ (by decide +kernel) fun t hf y => ?_
  obtain ⟨e0, e1, e2⟩ := out_row t y
  rw [after0_1]
  blk_simp
  frame_out
  unfold k0_pay1
  pointwise [slab]
  have i0 : (win0_1.blk t).view.emb y 0 = grid0.coords t 0 := Fin.ext e0
  have i2 : (win0_1.blk t).view.emb y 2 = y 2 := Fin.ext e2
  show _ = cell (m ((c : Thread nD τ).loc main_arg0) (ix2 ((win0_1.blk t).view.emb y 2) ((win0_1.blk t).view.emb y 0)))
    ((win0_1.blk t).view.emb y 1).val
  rw [e1, i0, i2, ← cell_of_block hF]
  exact congrArg (fun w => FloatOps.sitofp .f32 (BitVec.setWidth 32 (IntOp.cmpi .eq w _))) (in_row m c t (y 2))

/-- The transpose after the launch leaves the encoding in the order [batch, token, class] in the result. -/
theorem result (hF : WidenedBit F) (c : Dev nD) :
    Pipeline.afterTail₀ cfgs (dats m) 0 (V0 m) [hostOps1] c main_v3 = encoded (F := F) (m ((c : Thread nD τ).loc main_arg0)) := by
  unfold Pipeline.afterTail₀
  rw [List.flatten_singleton]
  show transpose S1024x50x1000 [2, 0, 1] (Pipeline.withArrays spec0 c (V0 m c) (fun w => (dats m 0 c).arrAt w cfg0.N) (Proc.devRef .tc (Pipeline.arrRef spec0 1))) transposes_S50x1000x1024_S1024x50x1000_2_0_1 = _
  rw [Pipeline.withArrays_arr spec0 (by decide), final m hF c]
  exact transpose_slab _ _

/-- The kernel's whole run: on every device the result is the encoding of the argument and the argument is unchanged. -/
theorem run (hF : WidenedBit F) : θ_run defs (onTc (τ := τ) (main (F := F))) ⟨m, fun _ => 0, ρ⟩ fun r => ∀ c : Dev nD,
      r.2.mem ((c : Thread nD τ).loc main_v3) = encoded (F := F) (m ((c : Thread nD τ).loc main_arg0))
      ∧ r.2.mem ((c : Thread nD τ).loc main_arg0) = m ((c : Thread nD τ).loc main_arg0) := by
  run_from run_main m ρ
  · exact result m hF c
  · exact W_main_arg0 m (dats m) c

end Cert.KernelIdeal.Encoded

end
-- ==== Proof.KernelValue.lean ====
/- The kernel on bit patterns is the same program as the idealized kernel: its run follows from that one's. -/
module

public import proofs.«01_k».proof.Proof.KernelIdealValue
public import proofs.«01_k».proof.Proof.Gen.Kernel
public import Idealize.ShloMosaic.Lib.Tactic

@[expose] public section

noncomputable section

namespace Cert.Kernel.Encoded

open Idealize.ShloMosaic Idealize.ShloMosaic.TcCoe Idealize.SL.Sem
open Cert.Kernel Cert.OneHot

variable {F : FTy → Type} [FloatOps F]

/-- The two programs define the same bodies. -/
theorem defs_eq : @Cert.Kernel.defs F _ _ = @Cert.KernelIdeal.defs F _ _ := by sl_kernel_rfl

/-- The two programs have the same entry function. -/
theorem main_eq : @Cert.Kernel.main F _ = @Cert.KernelIdeal.main F _ := by sl_kernel_rfl

/-- The kernel's whole run: on every device the result is the encoding of the argument and the argument is unchanged. -/
theorem run (m : (ℓ : Loc nD τ sig) → Buf (Elt F) ℓ) (ρ : Dev nD → PrngReg) (hF : WidenedBit F) :
    θ_run defs (onTc (τ := τ) (main (F := F))) ⟨m, fun _ => 0, ρ⟩ fun r => ∀ c : Dev nD,
      r.2.mem ((c : Thread nD τ).loc main_v3) = encoded (F := F) (m ((c : Thread nD τ).loc main_arg0))
      ∧ r.2.mem ((c : Thread nD τ).loc main_arg0) = m ((c : Thread nD τ).loc main_arg0) := by
  have h := Cert.KernelIdeal.Encoded.run m ρ hF
  rw [← defs_eq, ← main_eq] at h
  exact h

end Cert.Kernel.Encoded

end
-- ==== Proof.lean ====
/- The proof of the claim: the four programs run to quiescence, and the kernel's result and the reference's are the same
   one-hot encoding, over the extended reals and bit for bit. -/
module

public import proofs.«01_k».proof.Defs
public import proofs.«01_k».proof.Proof.KernelValue
public import proofs.«01_k».proof.Proof.Gen.Kernel.Frame
public import proofs.«01_k».proof.Proof.Gen.KernelIdeal.Frame
public import proofs.«01_k».proof.Proof.Gen.Reference.Run
public import proofs.«01_k».proof.Proof.Gen.ReferenceIdeal.Run
public import Idealize.ShloMosaic.Lib.Claim
public import Idealize.ShloMosaic.Lib.Quiescent

@[expose] public section

set_option maxRecDepth 16384

noncomputable section

namespace Cert.Proof

open Idealize.ShloMosaic Idealize.SL.Sem Cert.OneHot

/-- The reference on bit patterns runs to quiescence and keeps its argument. -/
theorem reference_frame : Cert.quiescent_Reference := fun m ρ _ =>
  (θ_run _ _ _).mono (fun r h => ⟨fun c => (h c).2, sem_eq_zero_of_no_sems (by decide) r.2⟩) (Cert.Reference.Value.run m ρ)

/-- The reference over the extended reals runs to quiescence and keeps its argument. -/
theorem referenceIdeal_frame : Cert.quiescent_ReferenceIdeal := fun m ρ _ =>
  (θ_run _ _ _).mono (fun r h => ⟨fun c => (h c).2, sem_eq_zero_of_no_sems (by decide) r.2⟩) (Cert.ReferenceIdeal.Value.run m ρ)

/-- Over the extended reals the kernel's result is the reference's. -/
theorem algebraic : Cert.algebraic_KernelIdeal_ReferenceIdeal := by
  pair_intro
  · run_from Cert.KernelIdeal.Encoded.run m g widenedBit_ideal
  · hlo_run
    exact compared_classes _ Cert.ReferenceIdeal.Facts₀.bcast_S1024x50_S1024x50x1_0_1
      Cert.ReferenceIdeal.Facts₀.bcast_S1024x50x1_S1024x50x1000_0_1_2 Cert.ReferenceIdeal.Facts₀.bcast_S1x1x1000_S1024x50x1000_0_1_2

/-- On bit patterns the kernel's result is the reference's. -/
theorem bitexact : Cert.bitexact_Kernel_Reference := by
  pair_intro
  · run_from Cert.Kernel.Encoded.run m g widenedBit_bits
  · hlo_run
    exact compared_classes _ Cert.Reference.Facts₀.bcast_S1024x50_S1024x50x1_0_1
      Cert.Reference.Facts₀.bcast_S1024x50x1_S1024x50x1000_0_1_2 Cert.Reference.Facts₀.bcast_S1x1x1000_S1024x50x1000_0_1_2

/-- The kernel's claims. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ, reference_frame, referenceIdeal_frame,
    trivial, algebraic, bitexact⟩

end Cert.Proof

end
